-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S8192 : Shape := ⟨1, ![8192]⟩
abbrev S1024x2 : Shape := ⟨2, ![1024, 2]⟩
abbrev S101x101x2 : Shape := ⟨3, ![101, 101, 2]⟩
abbrev S1024x1024 : Shape := ⟨2, ![1024, 1024]⟩
abbrev S1024 : Shape := ⟨1, ![1024]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel
  bcast_S_S1024x2 : S_.BroadcastsInDim S1024x2 (![] : Fin 0 → Fin S1024x2.rank)
  reducesTo_S1024x2_S_d0_1 : S1024x2.ReducesTo [0, 1] S_
  bcast_S_S101x101x2 : S_.BroadcastsInDim S101x101x2 (![] : Fin 0 → Fin S101x101x2.rank)
  reducesTo_S101x101x2_S_d0_1_2 : S101x101x2.ReducesTo [0, 1, 2] S_

variable [Facts]

def fn_part1 {F : FTy → Type} [FloatOps F] (main_arg2 : FVec F S1024x2 .f32) (main_arg3 : FVec F S101x101x2 .f32) (main_v12 : IVec S_ 1) (main_v14 : IVec S1024x2 1) (main_v15 : FVec F S1024x2 .f32) : IVec S_ 1 :=
  let main_v16 : IVec S1024x2 1 := cmpf .olt main_arg2 main_v15
  let main_v17 : IVec S1024x2 1 := andi main_v14 main_v16
  let main_c_6 : IVec S_ 1 := constantI S_ 1 1#1
  let main_v18 : IVec S_ 1 := (fun x v => Host.reduce IntOp.andi x v reducesTo_S1024x2_S_d0_1 h_S_) main_v17 main_c_6
  let main_v19 : IVec S_ 1 := andi main_v12 main_v18
  let main_v20 : FVec F S101x101x2 .f32 := Host.absf main_arg3
  let main_cst_7 : FVec F S_ .f32 := constant S_ .f32 0x7F800000#32
  let main_v21 : FVec F S101x101x2 .f32 := broadcastInDim S101x101x2 ![] bcast_S_S101x101x2 main_cst_7
  let main_v22 : IVec S101x101x2 1 := cmpf .olt main_v20 main_v21
  let main_c_8 : IVec S_ 1 := constantI S_ 1 1#1
  let main_v23 : IVec S_ 1 := (fun x v => Host.reduce IntOp.andi x v reducesTo_S101x101x2_S_d0_1_2 h_S_) main_v22 main_c_8
  let main_v24 : IVec S_ 1 := andi main_v19 main_v23
  main_v24

def fn {F : FTy → Type} [FloatOps F] (main_arg0 : IVec S8192 32) (main_arg1 : IVec S8192 32) (main_arg2 : FVec F S1024x2 .f32) (main_arg3 : FVec F S101x101x2 .f32) (main_arg4 : FVec F S1024x1024 .f32) (main_arg5 : FVec F S1024x1024 .f32) (main_arg6 : FVec F S1024 .f32) : IVec S_ 1 :=
  let main_c : IVec S_ 32 := constantI S_ 32 0#32
  let main_v0 : IVec S8192 32 := broadcastInDim S8192 ![] bcast_S_S8192 main_c
  let main_v1 : IVec S8192 1 := cmpi .sge main_arg0 main_v0
  let main_c_0 : IVec S_ 32 := constantI S_ 32 128#32
  let main_v2 : IVec S8192 32 := broadcastInDim S8192 ![] bcast_S_S8192 main_c_0
  let main_v3 : IVec S8192 1 := cmpi .slt main_arg0 main_v2
  let main_v4 : IVec S8192 1 := andi main_v1 main_v3
  let main_c_1 : IVec S_ 1 := constantI S_ 1 1#1
  let main_v5 : IVec S_ 1 := (fun x v => Host.reduce IntOp.andi x v reducesTo_S8192_S_d0 h_S_) main_v4 main_c_1
  let main_c_2 : IVec S_ 32 := constantI S_ 32 0#32
  let main_v6 : IVec S8192 32 := broadcastInDim S8192 ![] bcast_S_S8192 main_c_2
  let main_v7 : IVec S8192 1 := cmpi .sge main_arg1 main_v6
  let main_c_3 : IVec S_ 32 := constantI S_ 32 128#32
  let main_v8 : IVec S8192 32 := broadcastInDim S8192 ![] bcast_S_S8192 main_c_3
  let main_v9 : IVec S8192 1 := cmpi .slt main_arg1 main_v8
  let main_v10 : IVec S8192 1 := andi main_v7 main_v9
  let main_c_4 : IVec S_ 1 := constantI S_ 1 1#1
  let main_v11 : IVec S_ 1 := (fun x v => Host.reduce IntOp.andi x v reducesTo_S8192_S_d0 h_S_) main_v10 main_c_4
  let main_v12 : IVec S_ 1 := andi main_v5 main_v11
  let main_cst : FVec F S_ .f32 := constant S_ .f32 0x00000000#32
  let main_v13 : FVec F S1024x2 .f32 := broadcastInDim S1024x2 ![] bcast_S_S1024x2 main_cst
  let main_v14 : IVec S1024x2 1 := cmpf .oge main_arg2 main_v13
  let main_cst_5 : FVec F S_ .f32 := constant S_ .f32 0x3F800000#32
  let main_v15 : FVec F S1024x2 .f32 := broadcastInDim S1024x2 ![] bcast_S_S1024x2 main_cst_5
  fn_part1 (F := F) main_arg2 main_arg3 main_v12 main_v14 main_v15
-- ==== Kernel.lean ====
abbrev S8192 : Shape := ⟨1, ![8192]⟩
abbrev S1024x2 : Shape := ⟨2, ![1024, 2]⟩
abbrev S101x101x2 : Shape := ⟨3, ![101, 101, 2]⟩
abbrev S1024x1024 : Shape := ⟨2, ![1024, 1024]⟩
abbrev S1024 : Shape := ⟨1, ![1024]⟩
abbrev S8192x1 : Shape := ⟨2, ![8192, 1]⟩
abbrev S101x202 : Shape := ⟨2, ![101, 202]⟩
abbrev S1024x1 : Shape := ⟨2, ![1024, 1]⟩
abbrev S128x128 : Shape := ⟨2, ![128, 128]⟩
abbrev S2048x1 : Shape := ⟨2, ![2048, 1]⟩
abbrev S2048x128 : Shape := ⟨2, ![2048, 128]⟩
abbrev S202x128 : Shape := ⟨2, ![202, 128]⟩
abbrev S128x101 : Shape := ⟨2, ![128, 101]⟩
abbrev S1024x128 : Shape := ⟨2, ![1024, 128]⟩
abbrev S101x128 : Shape := ⟨2, ![101, 128]⟩
abbrev S1x128x128 : Shape := ⟨3, ![1, 128, 128]⟩
abbrev S1 : Shape := ⟨1, ![1]⟩
abbrev S1x1x1 : Shape := ⟨3, ![1, 1, 1]⟩
abbrev S128 : Shape := ⟨1, ![128]⟩
abbrev S128x1 : Shape := ⟨2, ![128, 1]⟩
abbrev S1x128 : Shape := ⟨2, ![1, 128]⟩
abbrev S2x1024 : Shape := ⟨2, ![2, 1024]⟩
abbrev S1x1024 : Shape := ⟨2, ![1, 1024]⟩

abbrev nBuf : Space → Nat
  | .hbm => 12
  | .vmem => 8
  | .smem => 0
  | _ => 0

abbrev bufTy : (tb : Table) → Fin (tcTables nBuf tb) → BufTy
  | .hbm, ⟨0, _⟩ => ⟨S8192, .i32⟩
  | .hbm, ⟨1, _⟩ => ⟨S8192, .i32⟩
  | .hbm, ⟨2, _⟩ => ⟨S1024x2, .f32⟩
  | .hbm, ⟨3, _⟩ => ⟨S101x101x2, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S8192x1, .i32⟩
  | .hbm, ⟨8, _⟩ => ⟨S8192x1, .i32⟩
  | .hbm, ⟨9, _⟩ => ⟨S101x202, .f32⟩
  | .hbm, ⟨10, _⟩ => ⟨S1024x1, .f32⟩
  | .hbm, ⟨11, _⟩ => ⟨S1024x2, .f32⟩
  | .local _ .vmem, ⟨0, _⟩ => ⟨S8192x1, .i32⟩
  | .local _ .vmem, ⟨1, _⟩ => ⟨S8192x1, .i32⟩
  | .local _ .vmem, ⟨2, _⟩ => ⟨S1024x2, .f32⟩
  | .local _ .vmem, ⟨3, _⟩ => ⟨S101x202, .f32⟩
  | .local _ .vmem, ⟨4, _⟩ => ⟨S1024x1024, .f32⟩
  | .local _ .vmem, ⟨5, _⟩ => ⟨S1024x1024, .f32⟩
  | .local _ .vmem, ⟨6, _⟩ => ⟨S1024x1, .f32⟩
  | .local _ .vmem, ⟨7, _⟩ => ⟨S1024x2, .f32⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c4_i32 : BitVec 32 := 4#32
  let v4 : BitVec 32 := Scalar.addi c0_i32 c4_i32
  let c1_i32 : BitVec 32 := 1#32
  ⟨c0_i32, v4, c1_i32⟩
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c2048_i32 : BitVec 32 := 2048#32
  let v214 : BitVec 32 := Scalar.muli arg8 c2048_i32
  let v215 : Index := Scalar.indexCast v214
  let c0_67 : Index := 0#32
  ![v215.toNat, 0]
abbrev stage0_0 : Fin 1 → Memref sig .tc .vmem S8192x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S101x202 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S8192 : Shape := ⟨1, ![8192]⟩
abbrev S1024x2 : Shape := ⟨2, ![1024, 2]⟩
abbrev S101x101x2 : Shape := ⟨3, ![101, 101, 2]⟩
abbrev S1024x1024 : Shape := ⟨2, ![1024, 1024]⟩
abbrev S1024 : Shape := ⟨1, ![1024]⟩
abbrev S1x8192 : Shape := ⟨2, ![1, 8192]⟩
abbrev S1024x1 : Shape := ⟨2, ![1024, 1]⟩
abbrev S1024x8192 : Shape := ⟨2, ![1024, 8192]⟩
abbrev S1024x1x8192 : Shape := ⟨3, ![1024, 1, 8192]⟩
abbrev S1024x2x8192 : Shape := ⟨3, ![1024, 2, 8192]⟩
abbrev S_ : Shape := ⟨0, ![]⟩
abbrev S1024x8192x1 : Shape := ⟨3, ![1024, 8192, 1]⟩
abbrev S1024x8192x2 : Shape := ⟨3, ![1024, 8192, 2]⟩
abbrev S1x1024 : Shape := ⟨2, ![1, 1024]⟩
abbrev S1 : Shape := ⟨1, ![1]⟩

abbrev nBuf : Space → Nat
  | .hbm => 156
  | .vmem => 0
  | .smem => 0
  | _ => 0

abbrev hbmTy0_0 (i : Nat) : BufTy := match i % 128 with
  | 0 => ⟨S8192, .i32⟩
  | 1 => ⟨S8192, .i32⟩
  | 2 => ⟨S1024x2, .f32⟩
  | 3 => ⟨S101x101x2, .f32⟩
  | 4 => ⟨S1024x1024, .f32⟩
  | 5 => ⟨S1024x1024, .f32⟩
  | 6 => ⟨S1024, .f32⟩
  | 7 => ⟨S1x8192, .i32⟩
  | 8 => ⟨S1x8192, .f32⟩
  | 9 => ⟨S1024x1, .f32⟩
  | 10 => ⟨S1024, .f32⟩
  | 11 => ⟨S1024x1, .f32⟩
  | 12 => ⟨S1024x8192, .f32⟩
  | 13 => ⟨S1024x8192, .f32⟩
  | 14 => ⟨S1024x8192, .f32⟩
  | 15 => ⟨S1024x8192, .i32⟩
  | 16 => ⟨S1x8192, .i32⟩
  | 17 => ⟨S1x8192, .f32⟩
  | 18 => ⟨S1024x1, .f32⟩
  | 19 => ⟨S1024, .f32⟩
  | 20 => ⟨S1024x1, .f32⟩
  | 21 => ⟨S1024x8192, .f32⟩
  | 22 => ⟨S1024x8192, .f32⟩
  | 23 => ⟨S1024x8192, .f32⟩
  | 24 => ⟨S1024x8192, .i32⟩
  | 25 => ⟨S1024x1x8192, .i32⟩
  | 26 => ⟨S1024x1x8192, .i32⟩
  | 27 => ⟨S1024x2x8192, .i32⟩
  | 28 => ⟨S_, .i32⟩
  | 29 => ⟨S_, .i32⟩
  | 30 => ⟨S_, .i32⟩
  | 31 => ⟨S1024x2x8192, .i32⟩
  | 32 => ⟨S1024x2x8192, .i32⟩
  | 33 => ⟨S_, .i32⟩
  | 34 => ⟨S1024x2x8192, .i32⟩
  | 35 => ⟨S1024x2x8192, .i32⟩
  | 36 => ⟨S_, .i32⟩
  | 37 => ⟨S1024x2x8192, .i32⟩
  | 38 => ⟨S1024x2x8192, .i32⟩
  | 39 => ⟨S1024x1x8192, .i32⟩
  | 40 => ⟨S1024x8192, .i32⟩
  | 41 => ⟨S1024x1x8192, .i32⟩
  | 42 => ⟨S1024x8192, .i32⟩
  | 43 => ⟨S_, .i32⟩
  | 44 => ⟨S1024x8192, .i32⟩
  | 45 => ⟨S1024x8192, .i1⟩
  | 46 => ⟨S_, .i32⟩
  | 47 => ⟨S1024x8192, .i32⟩
  | 48 => ⟨S1024x8192, .i32⟩
  | 49 => ⟨S1024x8192, .i32⟩
  | 50 => ⟨S_, .i32⟩
  | 51 => ⟨S1024x8192, .i32⟩
  | 52 => ⟨S1024x8192, .i1⟩
  | 53 => ⟨S_, .i32⟩
  | 54 => ⟨S1024x8192, .i32⟩
  | 55 => ⟨S1024x8192, .i32⟩
  | 56 => ⟨S1024x8192, .i32⟩
  | 57 => ⟨S1024x8192x1, .i32⟩
  | 58 => ⟨S1024x8192x1, .i32⟩
  | 59 => ⟨S1024x8192x2, .i32⟩
  | 60 => ⟨S1024x8192x2, .f32⟩
  | 61 => ⟨S1024x8192x1, .f32⟩
  | 62 => ⟨S1024x8192, .f32⟩
  | 63 => ⟨S_, .f32⟩
  | 64 => ⟨S1024, .f32⟩
  | 65 => ⟨S1024x8192x1, .f32⟩
  | 66 => ⟨S1024x8192, .f32⟩
  | 67 => ⟨S_, .f32⟩
  | 68 => ⟨S1024, .f32⟩
  | 69 => ⟨S_, .f32⟩
  | 70 => ⟨S1024, .f32⟩
  | 71 => ⟨S1024, .i1⟩
  | 72 => ⟨S1024, .f32⟩
  | 73 => ⟨S1024x1, .f32⟩
  | 74 => ⟨S1024, .f32⟩
  | 75 => ⟨S1x1024, .f32⟩
  | 76 => ⟨S1024x1, .f32⟩
  | 77 => ⟨S1024, .f32⟩
  | 78 => ⟨S1024x1, .f32⟩
  | 79 => ⟨S1024x1024, .f32⟩
  | 80 => ⟨S1024x1024, .f32⟩
  | 81 => ⟨S1024x1024, .f32⟩
  | 82 => ⟨S1024x1, .f32⟩
  | 83 => ⟨S1024, .f32⟩
  | 84 => ⟨S1x1024, .f32⟩
  | 85 => ⟨S1024x1, .f32⟩
  | 86 => ⟨S1024, .f32⟩
  | 87 => ⟨S1024x1, .f32⟩
  | 88 => ⟨S1024x1024, .f32⟩
  | 89 => ⟨S1024x1024, .f32⟩
  | 90 => ⟨S1024x1024, .f32⟩
  | 91 => ⟨S1024x1024, .f32⟩
  | 92 => ⟨S1024x1024, .f32⟩
  | 93 => ⟨S1024x1024, .f32⟩
  | 94 => ⟨S1024x1024, .f32⟩
  | 95 => ⟨S1024x1024, .f32⟩
  | 96 => ⟨S1024x1024, .f32⟩
  | 97 => ⟨S1024x1024, .f32⟩
  | 98 => ⟨S_, .f32⟩
  | 99 => ⟨S1024x1024, .f32⟩
  | 100 => ⟨S1024x1024, .f32⟩
  | 101 => ⟨S1024x1024, .f32⟩
  | 102 => ⟨S_, .f32⟩
  | 103 => ⟨S1024x1024, .f32⟩
  | 104 => ⟨S1024x1024, .f32⟩
  | 105 => ⟨S1024x1024, .f32⟩
  | 106 => ⟨S_, .f32⟩
  | 107 => ⟨S1024, .f32⟩
  | 108 => ⟨S1024, .f32⟩
  | 109 => ⟨S1024, .f32⟩
  | 110 => ⟨S_, .f32⟩
  | 111 => ⟨S1024, .f32⟩
  | 112 => ⟨S1024, .f32⟩
  | 113 => ⟨S1024, .f32⟩
  | 114 => ⟨S1024x1, .f32⟩
  | 115 => ⟨S1024, .f32⟩
  | 116 => ⟨S_, .i32⟩
  | 117 => ⟨S_, .i32⟩
  | 118 => ⟨S_, .f32⟩
  | 119 => ⟨S1024, .f32⟩
  | 120 => ⟨S1024, .f32⟩
  | 121 => ⟨S_, .f32⟩
  | 122 => ⟨S1024, .f32⟩
  | 123 => ⟨S1024, .f32⟩
  | 124 => ⟨S_, .f32⟩
  | 125 => ⟨S1024, .f32⟩
  | 126 => ⟨S1024, .f32⟩
  | 127 => ⟨S1024, .f32⟩
  | _ => ⟨S8192, .i32⟩

abbrev hbmTy0_1 (i : Nat) : BufTy := match i % 128 with
  | 0 => ⟨S_, .f32⟩
  | 1 => ⟨S1024, .f32⟩
  | 2 => ⟨S1024, .f32⟩
  | 3 => ⟨S1024, .f32⟩
  | 4 => ⟨S1024x1, .f32⟩
  | 5 => ⟨S1024, .f32⟩
  | 6 => ⟨S_, .i32⟩
  | 7 => ⟨S_, .i32⟩
  | 8 => ⟨S_, .f32⟩
  | 9 => ⟨S1024, .f32⟩
  | 10 => ⟨S1024, .f32⟩
  | 11 => ⟨S_, .f32⟩
  | 12 => ⟨S1024, .f32⟩
  | 13 => ⟨S1024, .f32⟩
  | 14 => ⟨S_, .f32⟩
  | 15 => ⟨S1024, .f32⟩
  | 16 => ⟨S1024, .f32⟩
  | 17 => ⟨S1024, .f32⟩
  | 18 => ⟨S_, .f32⟩
  | 19 => ⟨S1024, .f32⟩
  | 20 => ⟨S1024, .f32⟩
  | 21 => ⟨S1024, .f32⟩
  | 22 => ⟨S_, .i32⟩
  | 23 => ⟨S1, .i32⟩
  | 24 => ⟨S1024x2, .f32⟩
  | 25 => ⟨S_, .i32⟩
  | 26 => ⟨S1, .i32⟩
  | 27 => ⟨S1024x2, .f32⟩
  | _ => ⟨S8192, .i32⟩

abbrev hbmTy (i : Nat) : BufTy := match i / 128 with
  | 0 => hbmTy0_0 i
  | 1 => hbmTy0_1 i
  | _ => ⟨S8192, .i32⟩

abbrev bufTy : (tb : Table) → Fin (tcTables nBuf tb) → BufTy
  | .hbm, ⟨i, _⟩ => hbmTy i
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_c_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v21 : Ref sig .tc := ⟨.hbm, 35, rfl⟩
abbrev main_c_1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_2 : Ref sig .tc := ⟨.hbm, 43, rfl⟩
abbrev main_v28 : Ref sig .tc := ⟨.hbm, 44, rfl⟩
abbrev main_v29 : Ref sig .tc := ⟨.hbm, 45, rfl⟩
abbrev main_c_3 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_4 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_6 : Ref sig .tc := ⟨.hbm, 67, rfl⟩
abbrev main_v47 : Ref sig .tc := ⟨.hbm, 68, rfl⟩
abbrev main_cst_7 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_8 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_9 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_10 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_11 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_c_12 : Ref sig .tc := ⟨.hbm, 116, rfl⟩
abbrev main_c_13 : Ref sig .tc := ⟨.hbm, 117, rfl⟩
abbrev main_call1_v0 : Ref sig .tc := ⟨.hbm, 118, rfl⟩
abbrev main_call1_v1 : Ref sig .tc := ⟨.hbm, 119, rfl⟩
abbrev main_call1_v2 : Ref sig .tc := ⟨.hbm, 120, rfl⟩
abbrev main_call1_v3 : Ref sig .tc := ⟨.hbm, 121, rfl⟩
abbrev main_call1_v4 : Ref sig .tc := ⟨.hbm, 122, rfl⟩
abbrev main_v90 : Ref sig .tc := ⟨.hbm, 123, rfl⟩
abbrev main_cst_14 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_15 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_c_16 : Ref sig .tc := ⟨.hbm, 134, rfl⟩
abbrev main_c_17 : Ref sig .tc := ⟨.hbm, 135, rfl⟩
abbrev main_call2_v0 : Ref sig .tc := ⟨.hbm, 136, rfl⟩
abbrev main_call2_v1 : Ref sig .tc := ⟨.hbm, 137, rfl⟩
abbrev main_call2_v2 : Ref sig .tc := ⟨.hbm, 138, rfl⟩
abbrev main_call2_v3 : Ref sig .tc := ⟨.hbm, 139, rfl⟩
abbrev main_call2_v4 : Ref sig .tc := ⟨.hbm, 140, rfl⟩
abbrev main_v99 : Ref sig .tc := ⟨.hbm, 141, rfl⟩
abbrev main_cst_18 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_cst_19 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_c_20 : Ref sig .tc := ⟨.hbm, 150, rfl⟩
abbrev main_v106 : Ref sig .tc := ⟨.hbm, 151, rfl⟩
abbrev main_v107 : Ref sig .tc := ⟨.hbm, 152, rfl⟩
abbrev main_c_21 : Ref sig .tc := ⟨.hbm, 153, rfl⟩
abbrev main_v108 : Ref sig .tc := ⟨.hbm, 154, rfl⟩
abbrev main_v109 : Ref sig .tc := ⟨.hbm, 155, rfl⟩

abbrev nD : Nat := 1
abbrev τ : Topo := Topo.v7x

variable {F : FTy → Type} [FloatOps F]
-- ==== Proof.KernelTerm.lean ====
/-
  The kernel's result as one term over its argument arrays. The launch has a single point whose blocks are whole
  arrays, so the result array ends holding what the body stores; the body's counted loop over four groups of events is
  read as four additions into the histogram.
-/
module

public import proofs.«01_k».proof.Proof.Gen.KernelIdeal.Value
public import Idealize.ShloMosaic.Lib.Pointwise
public import Idealize.ShloMosaic.Lib.StableHlo.Run
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable {F : FTy → Type} [FloatOps F]

/-- Offsets written as a literal pair of zeros are the zero offsets. -/
theorem offs_zero : (![0, 0] : Fin 2 → Nat) = fun _ => 0 := by
  funext a
  match a with
  | ⟨0, _⟩ => rfl
  | ⟨1, _⟩ => rfl

/-- Rows `2048 q` to `2048 q + 2047` of a column of 8192 event words. -/
def rowsOf (q : Fin 4) (x : Vec F S8192x1 .i32) : Vec F S2048x1 .i32 :=
  fun i => x (ix2 ⟨2048 * q.val + (i 0).val, by have h : (i 0).val < 2048 := (i 0).isLt; omega⟩ 0)

/-- The event histogram as the kernel accumulates it: four additions to zero, one per group of 2048 events. -/
def countV (x0 x1 : Vec F S8192x1 .i32) : FVec F S128x128 .f32 :=
  k0_pay5 (k0_pay5 (k0_pay5 (k0_pay5 k0_pay4 (rowsOf (F := F) 0 x0) (rowsOf (F := F) 0 x1)) (rowsOf (F := F) 1 x0) (rowsOf (F := F) 1 x1))
    (rowsOf (F := F) 2 x0) (rowsOf (F := F) 2 x1)) (rowsOf (F := F) 3 x0) (rowsOf (F := F) 3 x1)

/-- The offset of trip `q`'s load is row `2048 q`. -/
theorem offs_trip : ∀ (q : Fin 4) (h : q.val < k0_t1_loop.trips), k0_off1 ⟨q.val, h⟩ = ![2048 * q.val, 0] := by
  decide +kernel

/-- What trip `q` of the loop yields: the carried histogram plus that of its 2048 events. -/
theorem trip_eq (𝒱 : Variants) (c : Dev nD) (bd : Option 𝒱.V) (arg0 : Memref sig .tc .vmem S8192x1 .i32) (harg0 : arg0.IsWhole) (arg1 : Memref sig .tc .vmem S8192x1 .i32) (harg1 : arg1.IsWhole) (arg2 : Memref sig .tc .vmem S1024x2 .f32) (harg2 : arg2.IsWhole) (arg3 : Memref sig .tc .vmem S101x202 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x2 .f32) (harg7 : arg7.IsWhole)
    (x0 x1 : Vec F S8192x1 .i32) (q : Fin 4) (h : q.val < k0_t1_loop.trips) (acc : FVec F S128x128 .f32) :
    tripR_k0_t1 (F := F) 𝒱 c bd arg0 harg0 arg1 harg1 arg2 harg2 arg3 harg3 arg4 harg4 arg5 harg5 arg6 harg6 arg7 harg7 (harg0.unread x0) (harg1.unread x1) ⟨q.val, h⟩ acc
      = k0_pay5 acc (rowsOf (F := F) q x0) (rowsOf (F := F) q x1) := by
  have ho := offs_trip q h
  unfold tripR_k0_t1 trip_k0_t1
  dsimp only
  simp only [View.readAt_eq_ld, harg0.read_unread, harg1.read_unread]
  have h0 : k0_off1 ⟨q.val, h⟩ 0 = 2048 * q.val := congrFun ho 0
  have h1 : k0_off1 ⟨q.val, h⟩ 1 = 0 := congrFun ho 1
  congr 1
  · funext i; idx_vars i; pointwise [rowsOf]
    exact congrArg x0 ((ix2_inj ..).2 ⟨Fin.ext (congrArg (· + i0.val) h0), Fin.ext h1⟩)
  · funext i; idx_vars i; pointwise [rowsOf]
    exact congrArg x1 ((ix2_inj ..).2 ⟨Fin.ext (congrArg (· + i0.val) h0), Fin.ext h1⟩)

/-- After the four trips the loop's carried value is the histogram `countV`. -/
theorem loop_eq (𝒱 : Variants) (c : Dev nD) (bd : Option 𝒱.V) (arg0 : Memref sig .tc .vmem S8192x1 .i32) (harg0 : arg0.IsWhole) (arg1 : Memref sig .tc .vmem S8192x1 .i32) (harg1 : arg1.IsWhole) (arg2 : Memref sig .tc .vmem S1024x2 .f32) (harg2 : arg2.IsWhole) (arg3 : Memref sig .tc .vmem S101x202 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x2 .f32) (harg7 : arg7.IsWhole)
    (x0 x1 : Vec F S8192x1 .i32) :
    st_k0_t1 (F := F) 𝒱 c bd arg0 harg0 arg1 harg1 arg2 harg2 arg3 harg3 arg4 harg4 arg5 harg5 arg6 harg6 arg7 harg7 (harg0.unread x0) (harg1.unread x1) k0_pay4 (Scf.trips (0#32) (Scalar.addi 0#32 4#32) 1#32)
      = countV x0 x1 := by
  have step := fun (q : Fin 4) (h : q.val < k0_t1_loop.trips) =>
    (st_k0_t1_succ (F := F) 𝒱 c bd arg0 harg0 arg1 harg1 arg2 harg2 arg3 harg3 arg4 harg4 arg5 harg5 arg6 harg6 arg7 harg7 (harg0.unread x0) (harg1.unread x1) k0_pay4 ⟨q.val, h⟩).trans
      (trip_eq 𝒱 c bd arg0 harg0 arg1 harg1 arg2 harg2 arg3 harg3 arg4 harg4 arg5 harg5 arg6 harg6 arg7 harg7 x0 x1 q h _)
  rw [show Scf.trips (0#32) (Scalar.addi 0#32 4#32) 1#32 = 4 from by decide +kernel]
  refine (step 3 (by decide +kernel)).trans ?_
  refine Eq.trans (congrArg (fun a => k0_pay5 a _ _) (step 2 (by decide +kernel))) ?_
  refine Eq.trans (congrArg (fun a => k0_pay5 (k0_pay5 a _ _) _ _) (step 1 (by decide +kernel))) ?_
  exact congrArg (fun a => k0_pay5 (k0_pay5 (k0_pay5 a _ _) _ _) _ _) (step 0 (by decide +kernel))

/-- The first coordinate of a table position, and the second of a mask position, as the kernel counts them. -/
abbrev rowNo : IVec S202x128 32 := iota .tc S202x128 32 [0] iota_S202x128_d0_w32
/-- The column number of a `128 × 101` selection matrix. -/
abbrev colNo : IVec S128x101 32 := iota .tc S128x101 32 [1] iota_S128x101_d1_w32

/-- Channel 0 of the summed table lookups, per neuron, from the histogram, the centres and the table. -/
def sum0V (cnt : FVec F S128x128 .f32) (x2 : Vec F S1024x2 .f32) (x3 : Vec F S101x202 .f32) : FVec F S1024x1 .f32 :=
  k0_pay24 cnt (k0_pay13 (k0_pay3 x2)) (k0_pay14 (k0_pay2 x2))
    (k0_pay17 (k0_pay6 x3) rowNo k0_pay7 k0_pay9) (k0_pay18 (k0_pay6 x3) rowNo k0_pay8 k0_pay9)
    (k0_pay19 (k0_pay6 x3) rowNo k0_pay7 colNo k0_pay10) (k0_pay20 (k0_pay6 x3) rowNo k0_pay8 colNo k0_pay10)
    (k0_pay21 cnt (k0_pay6 x3) rowNo k0_pay7 k0_pay9)
    (k0_pay22 cnt (k0_pay6 x3) rowNo k0_pay7 colNo k0_pay9 k0_pay10)
    (k0_pay23 cnt (k0_pay6 x3) rowNo k0_pay7 k0_pay8 k0_pay9)

/-- Channel 1 of the summed table lookups, per neuron. -/
def sum1V (cnt : FVec F S128x128 .f32) (x2 : Vec F S1024x2 .f32) (x3 : Vec F S101x202 .f32) : FVec F S1024x1 .f32 :=
  k0_pay33 cnt (k0_pay13 (k0_pay3 x2)) (k0_pay14 (k0_pay2 x2))
    (k0_pay27 (k0_pay6 x3) rowNo k0_pay7 k0_pay9) (k0_pay28 (k0_pay6 x3) rowNo k0_pay8 k0_pay9)
    (k0_pay29 (k0_pay6 x3) rowNo k0_pay7 (k0_pay11 colNo k0_pay10)) (k0_pay30 (k0_pay6 x3) rowNo k0_pay8 (k0_pay11 colNo k0_pay10))
    (k0_pay31 cnt (k0_pay6 x3) rowNo k0_pay7 k0_pay9)
    (k0_pay32 cnt (k0_pay6 x3) rowNo k0_pay7 k0_pay9 (k0_pay11 colNo k0_pay10))

/-- What the body stores, from the contents of its seven input blocks. -/
def outV (x0 x1 : Vec F S8192x1 .i32) (x2 : Vec F S1024x2 .f32) (x3 : Vec F S101x202 .f32) (x4 x5 : Vec F S1024x1024 .f32)
    (x6 : Vec F S1024x1 .f32) : FVec F S1024x2 .f32 :=
  k0_pay1 (k0_pay2 x2) (k0_pay3 x2) (sum0V (countV x0 x1) x2 x3) (sum1V (countV x0 x1) x2 x3)
    (k0_pay38 x2 (k0_pay2 x2) (k0_pay3 x2) x4 x5) (k0_pay39 x2 (k0_pay2 x2) (k0_pay3 x2) x4 x5) x6

/-- The body's stored contents, whatever staging buffers it runs on, are `outV` of its input blocks. -/
theorem body_eq (c : Dev nD) (arg0 : Memref sig .tc .vmem S8192x1 .i32) (harg0 : arg0.IsWhole) (arg1 : Memref sig .tc .vmem S8192x1 .i32) (harg1 : arg1.IsWhole) (arg2 : Memref sig .tc .vmem S1024x2 .f32) (harg2 : arg2.IsWhole) (arg3 : Memref sig .tc .vmem S101x202 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x2 .f32) (harg7 : arg7.IsWhole)
    (x0 : Vec F S8192x1 .i32) (x1 : Vec F S8192x1 .i32) (x2 : Vec F S1024x2 .f32) (x3 : Vec F S101x202 .f32) (x4 : Vec F S1024x1024 .f32) (x5 : Vec F S1024x1024 .f32) (x6 : Vec F S1024x1 .f32) :
    out0_A_7 c arg0 harg0 arg1 harg1 arg2 harg2 arg3 harg3 arg4 harg4 arg5 harg5 arg6 harg6 arg7 harg7 x0 x1 x2 x3 x4 x5 x6
      = outV x0 x1 x2 x3 x4 x5 x6 := by
  unfold out0_A_7
  rw [View.read_writes_eq_canon _ _ _ (cover0_A_7 c arg0 harg0 arg1 harg1 arg2 harg2 arg3 harg3 arg4 harg4 arg5 harg5 arg6 harg6 arg7 harg7 x0 x1 x2 x3 x4 x5 x6)]
  unfold kernelRun0_A
  dsimp only
  rw [View.canon_unit_zero offs_zero]
  sl_unfold_words
  simp only [View.readAt_eq_ld, harg0.read_unread, harg1.read_unread, harg2.read_unread, harg3.read_unread, harg4.read_unread, harg5.read_unread, harg6.read_unread]
  rw [View.ld_unit_zero (S := S1024x2) offs_zero, View.ld_unit_zero (S := S101x202) offs_zero,
    View.ld_unit_zero (S := S1024x1024) offs_zero, View.ld_unit_zero (S := S1024x1024) offs_zero,
    View.ld_unit_zero (S := S1024x1) offs_zero, loop_eq]
  rfl

/-! ## The result array -/

variable (m : (ℓ : Loc nD τ sig) → Buf (Elt F) ℓ) (ρ : Dev nD → PrngReg)

/-- The kernel's result, from the seven argument arrays: the host prefix only reshapes three of them. -/
def resultV (a0 a1 : Vec F S8192 .i32) (a2 : Vec F S1024x2 .f32) (a3 : Vec F S101x101x2 .f32) (a4 a5 : Vec F S1024x1024 .f32)
    (a6 : Vec F S1024 .f32) : FVec F S1024x2 .f32 :=
  outV (shapeCast S8192x1 a0 shapeCasts_S8192_S8192x1) (shapeCast S8192x1 a1 shapeCasts_S8192_S8192x1) a2
    (shapeCast S101x202 a3 shapeCasts_S101x101x2_S101x202) a4 a5 (shapeCast S1024x1 a6 shapeCasts_S1024_S1024x1)

/-- The result buffer's contents after the run, on core `c`. -/
abbrev result (c : Dev nD) : Buf (Elt F) ((c : Thread nD τ).loc main_v4) :=
  resultV (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The first event array as the region finds it: the argument reshaped to a column. -/
theorem V_v0 (c : Dev nD) : V m c main_v0 = shapeCast S8192x1 (m ((c : Thread nD τ).loc main_arg0)) shapeCasts_S8192_S8192x1 := by
  show StableHlo.after hostOps0 (fun b => m (c, b)) main_v0 = _
  after_results <;> rfl
/-- The second event array as the region finds it: the argument reshaped to a column. -/
theorem V_v1 (c : Dev nD) : V m c main_v1 = shapeCast S8192x1 (m ((c : Thread nD τ).loc main_arg1)) shapeCasts_S8192_S8192x1 := by
  show StableHlo.after hostOps0 (fun b => m (c, b)) main_v1 = _
  after_results <;> rfl
/-- The lookup table as the region finds it: its two channels side by side in each row. -/
theorem V_v2 (c : Dev nD) : V m c main_v2 = shapeCast S101x202 (m ((c : Thread nD τ).loc main_arg3)) shapeCasts_S101x101x2_S101x202 := by
  show StableHlo.after hostOps0 (fun b => m (c, b)) main_v2 = _
  after_results <;> rfl
/-- The correction as the region finds it: the argument reshaped to a column. -/
theorem V_v3 (c : Dev nD) : V m c main_v3 = shapeCast S1024x1 (m ((c : Thread nD τ).loc main_arg6)) shapeCasts_S1024_S1024x1 := by
  show StableHlo.after hostOps0 (fun b => m (c, b)) main_v3 = _
  after_results <;> rfl

/-- Input block 0 is the whole of the first event column. -/
theorem iblk0 (c : Dev nD) : iblk m c 0 t0_0 = V m c main_v0 :=
  Memref.read_access_unit_zero (Elt F) main_v0 (funext fun a => by fin_cases a <;> decide) (fun a => by fin_cases a <;> decide) _
/-- Input block 1 is the whole of the second event column. -/
theorem iblk1 (c : Dev nD) : iblk m c 1 t0_0 = V m c main_v1 :=
  Memref.read_access_unit_zero (Elt F) main_v1 (funext fun a => by fin_cases a <;> decide) (fun a => by fin_cases a <;> decide) _
/-- Input block 2 is the whole of the centres. -/
theorem iblk2 (c : Dev nD) : iblk m c 2 t0_0 = V m c main_arg2 :=
  Memref.read_access_unit_zero (Elt F) main_arg2 (funext fun a => by fin_cases a <;> decide) (fun a => by fin_cases a <;> decide) _
/-- Input block 3 is the whole of the table. -/
theorem iblk3 (c : Dev nD) : iblk m c 3 t0_0 = V m c main_v2 :=
  Memref.read_access_unit_zero (Elt F) main_v2 (funext fun a => by fin_cases a <;> decide) (fun a => by fin_cases a <;> decide) _
/-- Input block 4 is the whole of the first distance matrix. -/
theorem iblk4 (c : Dev nD) : iblk m c 4 t0_0 = V m c main_arg4 :=
  Memref.read_access_unit_zero (Elt F) main_arg4 (funext fun a => by fin_cases a <;> decide) (fun a => by fin_cases a <;> decide) _
/-- Input block 5 is the whole of the second distance matrix. -/
theorem iblk5 (c : Dev nD) : iblk m c 5 t0_0 = V m c main_arg5 :=
  Memref.read_access_unit_zero (Elt F) main_arg5 (funext fun a => by fin_cases a <;> decide) (fun a => by fin_cases a <;> decide) _
/-- Input block 6 is the whole of the correction column. -/
theorem iblk6 (c : Dev nD) : iblk m c 6 t0_0 = V m c main_v3 :=
  Memref.read_access_unit_zero (Elt F) main_v3 (funext fun a => by fin_cases a <;> decide) (fun a => by fin_cases a <;> decide) _

/-- The one point's write-back stores the whole result. -/
theorem flushed_eq (c : Dev nD) (t : Fin cfg0.N) (_hf : (cfg0.win 7).flush t = true) :
    (dats m 0 c).flushed 7 t = ((cfg0.win 7).blk t).view.read (Elt F) (result m c) := by
  obtain rfl : t = t0_0 := fin_N0 t
  rw [flushed7_A, body_eq, iblk0, iblk1, iblk2, iblk3, iblk4, iblk5, iblk6, V_v0, V_v1, V_v2, V_v3, V_main_arg2, V_main_arg4,
    V_main_arg5]
  exact (Memref.read_access_unit_zero (Elt F) main_v4 (funext fun a => by fin_cases a <;> decide)
    (fun a => by fin_cases a <;> decide) (result m c)).symm

/-- The result array ends holding `result`: the single block covers it. -/
theorem final_eq (c : Dev nD) : (dats m 0 c).arrAt 7 cfg0.N = result m c :=
  (dats m 0 c).arrAt_eq_of_cover 7 (result m c) (flushed_eq m c) fun i =>
    ⟨t0_0, flush0_7 t0_0, by
      show i ∈ ((View.whole main_v4).slice (win0_7.rect t0_0)).set
      rw [View.set_slice_whole, Rect.mem_set_unit]
      intro a
      have h0 : (i 0 : Nat) < 1024 := (i 0).isLt
      have h1 : (i 1 : Nat) < 2 := (i 1).isLt
      match a with
      | ⟨0, _⟩ => exact ⟨Nat.zero_le _, h0⟩
      | ⟨1, _⟩ => exact ⟨Nat.zero_le _, h1⟩⟩

end Cert.KernelIdeal.Value

end
-- ==== Proof.Tables.lean ====
/-
  The kernel's selection matrices and the four shifted tables they make, read at an index over the extended reals.
  A coordinate `u` of the event plane reads table row `min u 50 + 50`, or `min (u - 1) 50 + 50` where the truncated
  difference to the centre is one lower; each of the four tables takes one of the two choices per axis.
-/
module

public import proofs.«01_k».proof.Proof.KernelTerm

@[expose] public section

set_option maxRecDepth 16384

noncomputable section

open Idealize.ShloMosaic Idealize.ShloMosaic.TcCoe Idealize.SL.Sem

namespace Cert.KernelIdeal.Value

open Cert.KernelIdeal Cert.KernelIdeal.Gen

/-- The table position of coordinate `u`, lowered by one when `b` holds. -/
def pos (b : Bool) (u : ℕ) : Fin 101 := ⟨min (u - b.toNat) 50 + 50, by omega⟩

/-- A widened comparison of two words, as a float, is one where they are equal and zero elsewhere. -/
theorem ind_eq (a b : BitVec 32) :
    (FloatOps.sitofp (F := Ideal) .f32 (BitVec.setWidth 32 (IntOp.cmpi CmpIPredicate.eq a b)) : EReal)
      = if a = b then 1 else 0 := by
  by_cases h : a = b
  · subst h
    rw [if_pos rfl, IntOp.cmpi_eq_self]
    show (((BitVec.setWidth 32 1#1).toInt : ℝ) : EReal) = 1
    rw [show (BitVec.setWidth 32 1#1).toInt = 1 from by decide]; norm_num
  · rw [if_neg h]
    have h' : IntOp.cmpi CmpIPredicate.eq a b = 0#1 := by
      show BitVec.ofBool (a == b) = 0#1
      rw [beq_eq_false_iff_ne.2 h]; rfl
    rw [h']
    show (((BitVec.setWidth 32 0#1).toInt : ℝ) : EReal) = 0
    rw [show (BitVec.setWidth 32 0#1).toInt = 0 from by decide]; norm_num

/-- Two numbers below `2 ^ 32` with the same word are equal. -/
theorem ofNat_inj {a b : ℕ} (ha : a < 4294967296) (hb : b < 4294967296) :
    BitVec.ofNat 32 a = BitVec.ofNat 32 b ↔ a = b := by
  constructor
  · intro h
    have := congrArg BitVec.toNat h
    rw [BitVec.toNat_ofNat, BitVec.toNat_ofNat, Nat.mod_eq_of_lt (by omega), Nat.mod_eq_of_lt (by omega)] at this
    exact this
  · rintro rfl; rfl

/-- A sum against a column of a selection matrix is the selected term. -/
theorem sum_select {K : ℕ} (hK : K ≤ 4294967296) (f : Fin K → EReal) (p : Fin K) (w : BitVec 32) (hw : w = BitVec.ofNat 32 p.val) :
    ∑ x, f x * (if BitVec.ofNat 32 x.val = w then (1 : EReal) else 0) = f p := by
  rw [Finset.sum_eq_single p]
  · rw [hw, if_pos rfl, mul_one]
  · intro x _ hx
    rw [hw, if_neg, mul_zero]
    intro h
    exact hx (Fin.ext ((ofNat_inj (by omega) (by omega)).1 h))
  · intro h; exact absurd (Finset.mem_univ _) h

/-- The same with the selection matrix on the left. -/
theorem select_sum {K : ℕ} (hK : K ≤ 4294967296) (f : Fin K → EReal) (p : Fin K) (w : BitVec 32) (hw : w = BitVec.ofNat 32 p.val) :
    ∑ x, (if BitVec.ofNat 32 x.val = w then (1 : EReal) else 0) * f x = f p := by
  rw [← sum_select hK f p w hw]
  exact Finset.sum_congr rfl fun _ _ => mul_comm _ _

/-- The kernel's word for the unlowered position of `u`. -/
theorem word_pos0 : ∀ u : Fin 128, IntOp.addi (IntOp.minsi (BitVec.ofNat 32 u.val) 50#32) 50#32
    = BitVec.ofNat 32 (pos false u.val).val := by decide +kernel
/-- The kernel's word for the lowered position of `u`. -/
theorem word_pos1 : ∀ u : Fin 128,
    IntOp.addi (IntOp.minsi (IntOp.maxsi (IntOp.subi (BitVec.ofNat 32 u.val) 1#32) 0#32) 50#32) 50#32
    = BitVec.ofNat 32 (pos true u.val).val := by decide +kernel
/-- The word of a packed column: twice the position plus the channel. -/
theorem word_pack : ∀ (p : Fin 101) (ch : Fin 2), IntOp.addi (IntOp.muli (2#32) (BitVec.ofNat 32 p.val)) (BitVec.ofNat 32 ch.val)
    = BitVec.ofNat 32 (2 * p.val + ch.val) := by decide +kernel

/-- The packed column that holds channel `ch` of position `p`. -/
def pack (p : Fin 101) (ch : Fin 2) : Fin 202 := ⟨2 * p.val + ch.val, by omega⟩

section tables
variable (x3 : FVec Ideal S101x202 .f32) (k : Fin 101) (u v : Fin 128)

/-- Column selection, channel 0, unlowered. -/
theorem col00 : k0_pay15 x3 rowNo k0_pay7 (ix2 k v) = x3 (ix2 k (pack (pos false v.val) 0)) := by
  pointwise [k0_pay15, k0_pay7]
  simp only [ind_eq, word_pos0]
  exact sum_select (by decide) _ (pack (pos false v.val) 0) _ (word_pack _ 0)
/-- Column selection, channel 0, lowered. -/
theorem col01 : k0_pay16 x3 rowNo k0_pay8 (ix2 k v) = x3 (ix2 k (pack (pos true v.val) 0)) := by
  pointwise [k0_pay16, k0_pay8]
  simp only [ind_eq, word_pos1]
  exact sum_select (by decide) _ (pack (pos true v.val) 0) _ (word_pack _ 0)
/-- Column selection, channel 1, unlowered. -/
theorem col10 : k0_pay25 x3 rowNo k0_pay7 (ix2 k v) = x3 (ix2 k (pack (pos false v.val) 1)) := by
  pointwise [k0_pay25, k0_pay7]
  simp only [ind_eq, word_pos0]
  exact sum_select (by decide) _ (pack (pos false v.val) 1) _ (word_pack _ 1)
/-- Column selection, channel 1, lowered. -/
theorem col11 : k0_pay26 x3 rowNo k0_pay8 (ix2 k v) = x3 (ix2 k (pack (pos true v.val) 1)) := by
  pointwise [k0_pay26, k0_pay8]
  simp only [ind_eq, word_pos1]
  exact sum_select (by decide) _ (pack (pos true v.val) 1) _ (word_pack _ 1)

/-- The unlowered row-selection matrix at an index. -/
theorem row0 : k0_pay9 (F := Ideal) (ix2 u k) = if BitVec.ofNat 32 k.val = BitVec.ofNat 32 (pos false u.val).val then (1 : EReal) else 0 := by
  pointwise [k0_pay9]
  rw [ind_eq, word_pos0]
/-- The lowered row-selection matrix at an index. -/
theorem row1 : k0_pay11 (F := Ideal) colNo k0_pay10 (ix2 u k) = if BitVec.ofNat 32 k.val = BitVec.ofNat 32 (pos true u.val).val then (1 : EReal) else 0 := by
  pointwise [k0_pay11, k0_pay10]
  rw [ind_eq, word_pos1]

/-- Channel 0's table with neither axis lowered. -/
theorem tab0_00 : k0_pay17 x3 rowNo k0_pay7 k0_pay9 (ix2 u v) = x3 (ix2 (pos false u.val) (pack (pos false v.val) 0)) := by
  pointwise [k0_pay17]
  simp only [row0, col00]
  exact select_sum (by decide) (fun k => x3 (ix2 k (pack (pos false v.val) 0))) _ _ rfl
/-- Channel 0's table with the second axis lowered. -/
theorem tab0_01 : k0_pay18 x3 rowNo k0_pay8 k0_pay9 (ix2 u v) = x3 (ix2 (pos false u.val) (pack (pos true v.val) 0)) := by
  pointwise [k0_pay18]
  simp only [row0, col01]
  exact select_sum (by decide) (fun k => x3 (ix2 k (pack (pos true v.val) 0))) _ _ rfl
/-- Channel 0's table with the first axis lowered. -/
theorem tab0_10 : k0_pay19 x3 rowNo k0_pay7 colNo k0_pay10 (ix2 u v) = x3 (ix2 (pos true u.val) (pack (pos false v.val) 0)) := by
  pointwise [k0_pay19]
  simp only [row1, col00]
  exact select_sum (by decide) (fun k => x3 (ix2 k (pack (pos false v.val) 0))) _ _ rfl
/-- Channel 0's table with both axes lowered. -/
theorem tab0_11 : k0_pay20 x3 rowNo k0_pay8 colNo k0_pay10 (ix2 u v) = x3 (ix2 (pos true u.val) (pack (pos true v.val) 0)) := by
  pointwise [k0_pay20]
  simp only [row1, col01]
  exact select_sum (by decide) (fun k => x3 (ix2 k (pack (pos true v.val) 0))) _ _ rfl
/-- Channel 1's table with neither axis lowered. -/
theorem tab1_00 : k0_pay27 x3 rowNo k0_pay7 k0_pay9 (ix2 u v) = x3 (ix2 (pos false u.val) (pack (pos false v.val) 1)) := by
  pointwise [k0_pay27]
  simp only [row0, col10]
  exact select_sum (by decide) (fun k => x3 (ix2 k (pack (pos false v.val) 1))) _ _ rfl
/-- Channel 1's table with the second axis lowered. -/
theorem tab1_01 : k0_pay28 x3 rowNo k0_pay8 k0_pay9 (ix2 u v) = x3 (ix2 (pos false u.val) (pack (pos true v.val) 1)) := by
  pointwise [k0_pay28]
  simp only [row0, col11]
  exact select_sum (by decide) (fun k => x3 (ix2 k (pack (pos true v.val) 1))) _ _ rfl
/-- Channel 1's table with the first axis lowered. -/
theorem tab1_10 : k0_pay29 x3 rowNo k0_pay7 (k0_pay11 colNo k0_pay10) (ix2 u v) = x3 (ix2 (pos true u.val) (pack (pos false v.val) 1)) := by
  pointwise [k0_pay29]
  simp only [row1, col10]
  exact select_sum (by decide) (fun k => x3 (ix2 k (pack (pos false v.val) 1))) _ _ rfl
/-- Channel 1's table with both axes lowered. -/
theorem tab1_11 : k0_pay30 x3 rowNo k0_pay8 (k0_pay11 colNo k0_pay10) (ix2 u v) = x3 (ix2 (pos true u.val) (pack (pos true v.val) 1)) := by
  pointwise [k0_pay30]
  simp only [row1, col11]
  exact select_sum (by decide) (fun k => x3 (ix2 k (pack (pos true v.val) 1))) _ _ rfl
end tables

/-- The packed table holds the two channels of the argument side by side. -/
theorem packed_apply (g : FVec Ideal S101x101x2 .f32) (k p : Fin 101) (ch : Fin 2) :
    shapeCast S101x202 g shapeCasts_S101x101x2_S101x202 (ix2 k (pack p ch)) = g (ix3 k p ch) := by
  pointwise
  have h1 : (pack p ch).val / 2 = p.val := by show (2 * p.val + ch.val) / 2 = p.val; omega
  have h2 : (pack p ch).val % 2 = ch.val := by show (2 * p.val + ch.val) % 2 = ch.val; omega
  exact congrArg g ((ix3_inj ..).2 ⟨rfl, Fin.ext h1, Fin.ext h2⟩)

end Cert.KernelIdeal.Value

end
-- ==== Proof.Algebra.lean ====
/-
  The real arithmetic behind the kernel, with no program in sight: a difference to a centre in `[0, 1)` truncates to
  the coordinate or one below it; a table chosen by two flags is its corner plus differences weighted by the flags; and
  a sum over a histogram's cells is a sum over the events counted in it.
-/
module

public import Idealize.ShloMosaic.Lib.Pointwise

@[expose] public section

set_option maxRecDepth 16384

noncomputable section

open Idealize.ShloMosaic

namespace Cert.Algebra

/-- Whether the difference of coordinate `u` and centre `c` truncates to one below `u`. -/
def low (c : ℝ) (u : ℕ) : Bool := decide (c ≠ 0 ∧ u ≠ 0)

/-- A flag as a real number. -/
def flag (b : Bool) : ℝ := if b then 1 else 0

/-- A word of a number below 128, read signed as a float, is that number. -/
theorem sitofp_small (u : ℕ) (hu : u < 128) :
    (FloatOps.sitofp (F := Ideal) .f32 (BitVec.ofNat 32 u) : EReal) = ((u : ℝ) : EReal) := by
  have h : ∀ u : Fin 128, (BitVec.ofNat 32 u.val).toInt = (u.val : ℤ) := by decide +kernel
  show (((BitVec.ofNat 32 u).toInt : ℝ) : EReal) = _
  rw [h ⟨u, hu⟩]; norm_cast

/-- The truncated difference to a centre in `[0, 1)` is the coordinate, or one below it. -/
theorem trunc_eq (c : ℝ) (h0 : 0 ≤ c) (h1 : c < 1) (u : ℕ) (hu : u < 128) :
    (FloatOps.fptosi (F := Ideal) (φ := .f32) 32 (((u : ℝ) : EReal) - ((c : ℝ) : EReal)) : BitVec 32)
      = BitVec.ofNat 32 (u - (low c u).toNat) := by
  show Ideal.fptosi 32 _ = _
  rw [← EReal.coe_sub, Ideal.fptosi, Ideal.toIntClamped_coe]
  have key : (if (0 : ℝ) ≤ (u : ℝ) - c then ⌊(u : ℝ) - c⌋ else ⌈(u : ℝ) - c⌉) = ((u - (low c u).toNat : ℕ) : ℤ) := by
    by_cases hc : c = 0
    · subst hc
      simp [low]
    · have hc' : 0 < c := lt_of_le_of_ne h0 (Ne.symm hc)
      rcases Nat.eq_zero_or_pos u with rfl | hp
      · rw [if_neg (by simp; exact hc')]
        simp only [low, Nat.cast_zero, zero_sub, Nat.zero_sub]
        rw [Int.ceil_eq_iff]; push_cast; constructor <;> linarith
      · have hu1 : (1 : ℝ) ≤ (u : ℝ) := by exact_mod_cast hp
        have hl : low c u = true := by simp [low, hc]; omega
        rw [if_pos (by linarith), hl, Int.floor_eq_iff]
        have : (((u - true.toNat : ℕ) : ℤ) : ℝ) = (u : ℝ) - 1 := by
          rw [show true.toNat = 1 from rfl]; push_cast [Nat.cast_sub hp]; ring
        rw [this]; constructor <;> linarith
  rw [key, show max (-((2 ^ (32 - 1) : ℕ) : ℤ)) (min (((2 ^ (32 - 1) : ℕ) : ℤ) - 1) ((u - (low c u).toNat : ℕ) : ℤ))
    = ((u - (low c u).toNat : ℕ) : ℤ) from by norm_num; omega]
  exact BitVec.ofInt_natCast _ _

/-- The coordinate less its truncated difference, as a float, is the flag. -/
theorem shift_eq (c : ℝ) (h0 : 0 ≤ c) (h1 : c < 1) (u : ℕ) (hu : u < 128) :
    (FloatOps.sitofp (F := Ideal) .f32 (IntOp.subi (BitVec.ofNat 32 u)
      (FloatOps.fptosi (F := Ideal) (φ := .f32) 32 (((u : ℝ) : EReal) - ((c : ℝ) : EReal)))) : EReal) = ((flag (low c u) : ℝ) : EReal) := by
  rw [trunc_eq c h0 h1 u hu]
  have h : ∀ (u : Fin 128) (b : Bool), (b = true → u.val ≠ 0) →
      IntOp.subi (BitVec.ofNat 32 u.val) (BitVec.ofNat 32 (u.val - b.toNat)) = BitVec.ofNat 32 b.toNat := by decide +kernel
  rw [h ⟨u, hu⟩ (low c u) (by intro hl; simp [low] at hl; exact hl.2)]
  rw [sitofp_small _ (by cases low c u <;> decide)]
  cases low c u <;> simp [flag]

/-- The corner table plus the flag-weighted differences sums, over the histogram, to the table the flags choose. -/
theorem blend {ι κ : Type} [Fintype ι] [Fintype κ] (N : ι → κ → ℝ) (p : ι → Bool) (q : κ → Bool) (g : Bool → Bool → ι → κ → ℝ) :
    (∑ u, ∑ v, N u v * g false false u v) + (∑ u, flag (p u) * ∑ v, N u v * (g true false u v - g false false u v))
        + (∑ v, flag (q v) * ∑ u, N u v * (g false true u v - g false false u v))
        + (∑ v, (∑ u, flag (p u) * (N u v * (g true true u v - g true false u v - g false true u v + g false false u v))) * flag (q v))
      = ∑ u, ∑ v, N u v * g (p u) (q v) u v := by
  have e1 : (∑ v, flag (q v) * ∑ u, N u v * (g false true u v - g false false u v))
      = ∑ u, ∑ v, flag (q v) * (N u v * (g false true u v - g false false u v)) := by
    rw [Finset.sum_comm]; exact Finset.sum_congr rfl fun v _ => Finset.mul_sum ..
  have e2 : (∑ v, (∑ u, flag (p u) * (N u v * (g true true u v - g true false u v - g false true u v + g false false u v))) * flag (q v))
      = ∑ u, ∑ v, (flag (p u) * (N u v * (g true true u v - g true false u v - g false true u v + g false false u v))) * flag (q v) := by
    rw [Finset.sum_comm]; exact Finset.sum_congr rfl fun v _ => Finset.sum_mul ..
  rw [e1, e2]
  simp only [Finset.mul_sum, ← Finset.sum_add_distrib]
  refine Finset.sum_congr rfl fun u _ => Finset.sum_congr rfl fun v _ => ?_
  cases p u <;> cases q v <;> simp [flag] <;> ring

/-- A sum over the cells of a histogram, weighted by its counts, is the sum over the counted events. -/
theorem sum_count {ε ι κ : Type} [Fintype ε] [Fintype ι] [Fintype κ] [DecidableEq ι] [DecidableEq κ] (x : ε → ι) (y : ε → κ) (h : ι → κ → ℝ) :
    (∑ u, ∑ v, (∑ e, if x e = u ∧ y e = v then (1 : ℝ) else 0) * h u v) = ∑ e, h (x e) (y e) := by
  simp only [Finset.sum_mul]
  calc _ = ∑ u, ∑ e, ∑ v, (if x e = u ∧ y e = v then (1 : ℝ) else 0) * h u v := Finset.sum_congr rfl fun u _ => Finset.sum_comm
    _ = ∑ e, ∑ u, ∑ v, (if x e = u ∧ y e = v then (1 : ℝ) else 0) * h u v := Finset.sum_comm
    _ = _ := Finset.sum_congr rfl fun e _ => by
      rw [Finset.sum_eq_single (x e), Finset.sum_eq_single (y e)]
      · simp
      · intro v _ hv; rw [if_neg (fun h => hv h.2.symm), zero_mul]
      · intro h; exact absurd (Finset.mem_univ _) h
      · intro u _ hu
        exact Finset.sum_eq_zero fun v _ => by rw [if_neg (fun h => hu h.1.symm), zero_mul]
      · intro h; exact absurd (Finset.mem_univ _) h

end Cert.Algebra

end
-- ==== Proof.Sums.lean ====
/-
  The kernel's summed table lookups as sums over the events. On arguments of the stated ranges every quantity the two
  sums are made of is a real number, so the arithmetic of `Algebra` applies, and what the kernel computes from its
  histogram is the sum over the 8192 events of the table entry each event selects.
-/
module

public import proofs.«01_k».proof.Proof.Tables
public import proofs.«01_k».proof.Proof.Algebra

@[expose] public section

set_option maxRecDepth 16384

noncomputable section

open Idealize.ShloMosaic Idealize.ShloMosaic.TcCoe Idealize.SL.Sem

namespace Cert.KernelIdeal.Value

open Cert.KernelIdeal Cert.KernelIdeal.Gen Cert.Algebra

/-- Arguments in the stated ranges, with the numbers behind them: event coordinates below 128, centres that are real
    numbers of `[0, 1)`, and a table of real numbers. -/
structure InRange (a0 a1 : Vec Ideal S8192 .i32) (a2 : FVec Ideal S1024x2 .f32) (a3 : FVec Ideal S101x101x2 .f32) where
  /-- first coordinate of each event -/
  ex : Fin 8192 → Fin 128
  /-- second coordinate of each event -/
  ey : Fin 8192 → Fin 128
  /-- the centres -/
  ctr : Fin 1024 → Fin 2 → ℝ
  /-- the table -/
  tab : Fin 101 → Fin 101 → Fin 2 → ℝ
  ex_eq : ∀ e, a0 (ix1 e) = BitVec.ofNat 32 (ex e).val
  ey_eq : ∀ e, a1 (ix1 e) = BitVec.ofNat 32 (ey e).val
  ctr_eq : ∀ n d, a2 (ix2 n d) = ((ctr n d : ℝ) : EReal)
  ctr_nonneg : ∀ n d, 0 ≤ ctr n d
  ctr_lt : ∀ n d, ctr n d < 1
  tab_eq : ∀ i j ch, a3 (ix3 i j ch) = ((tab i j ch : ℝ) : EReal)

section
variable {a0 a1 : Vec Ideal S8192 .i32} {a2 : FVec Ideal S1024x2 .f32} {a3 : FVec Ideal S101x101x2 .f32}
variable (H : InRange a0 a1 a2 a3)

/-- How many events have coordinates `u` and `v`. -/
def InRange.num (u v : Fin 128) : ℝ := ∑ e, if H.ex e = u ∧ H.ey e = v then (1 : ℝ) else 0

/-- The entry of channel `ch` that coordinates `u`, `v` select for neuron `n`. -/
def InRange.entry (n : Fin 1024) (ch : Fin 2) (u v : Fin 128) : ℝ :=
  H.tab (pos (low (H.ctr n 1) u.val) u.val) (pos (low (H.ctr n 0) v.val) v.val) ch

/-- A finite sum of real numbers is the same taken in the extended reals. -/
theorem coe_sum {ι : Type} [Fintype ι] (f : ι → ℝ) : ((∑ i, f i : ℝ) : EReal) = ∑ i, (f i : EReal) :=
  map_sum (⟨⟨Real.toEReal, rfl⟩, EReal.coe_add⟩ : ℝ →+ EReal) f Finset.univ

/-- The two selection factors of an event at a cell multiply to one where the event is in the cell, else to zero. -/
theorem ind_mul (p q u v : Fin 128) :
    (if BitVec.ofNat 32 p.val = BitVec.ofNat 32 u.val then (1 : EReal) else 0) * (if BitVec.ofNat 32 q.val = BitVec.ofNat 32 v.val then 1 else 0)
      = (((if p = u ∧ q = v then (1 : ℝ) else 0) : ℝ) : EReal) := by
  have hp : (BitVec.ofNat 32 p.val = BitVec.ofNat 32 u.val) ↔ p = u :=
    ⟨fun h => Fin.ext ((ofNat_inj (by omega) (by omega)).1 h), fun h => by rw [h]⟩
  have hq : (BitVec.ofNat 32 q.val = BitVec.ofNat 32 v.val) ↔ q = v :=
    ⟨fun h => Fin.ext ((ofNat_inj (by omega) (by omega)).1 h), fun h => by rw [h]⟩
  simp only [hp, hq]
  by_cases h1 : p = u <;> by_cases h2 : q = v <;> simp [h1, h2]

/-- The kernel's histogram at a cell is the number of events there. -/
theorem count_apply (u v : Fin 128) :
    countV (F := Ideal) (shapeCast S8192x1 a0 shapeCasts_S8192_S8192x1) (shapeCast S8192x1 a1 shapeCasts_S8192_S8192x1) (ix2 u v)
      = ((H.num u v : ℝ) : EReal) := by
  have tile := Fin.sum_univ_tiles 4 2048 (N := 8192) rfl (fun e => (if H.ex e = u ∧ H.ey e = v then (1 : ℝ) else 0))
  rw [InRange.num, tile, Fin.sum_univ_four]
  pointwise [countV, k0_pay5, k0_pay4, rowsOf]
  simp only [ind_eq, H.ex_eq, H.ey_eq, ind_mul]
  simp only [EReal.coe_add, coe_sum]

/-- The first flag matrix: coordinate `u` against the centre's second component. -/
theorem shiftX_apply (n : Fin 1024) (u : Fin 128) :
    k0_pay13 (F := Ideal) (k0_pay3 a2) (ix2 n u) = ((flag (low (H.ctr n 1) u.val) : ℝ) : EReal) := by
  pointwise [k0_pay13, k0_pay12, k0_pay3]
  rw [sitofp_small u.val u.isLt, H.ctr_eq]
  exact shift_eq _ (H.ctr_nonneg n 1) (H.ctr_lt n 1) u.val u.isLt

/-- The second flag matrix: coordinate `v` against the centre's first component. -/
theorem shiftY_apply (n : Fin 1024) (v : Fin 128) :
    k0_pay14 (F := Ideal) (k0_pay2 a2) (ix2 n v) = ((flag (low (H.ctr n 0) v.val) : ℝ) : EReal) := by
  pointwise [k0_pay14, k0_pay12, k0_pay2]
  rw [sitofp_small v.val v.isLt, H.ctr_eq]
  exact shift_eq _ (H.ctr_nonneg n 0) (H.ctr_lt n 0) v.val v.isLt

/-- The table block is read whole. -/
theorem pay6_eq (x3 : Vec Ideal S101x202 .f32) : k0_pay6 x3 = x3 := by
  funext i
  idx_vars i
  pointwise [k0_pay6]

/-- Channel 0 of the kernel's summed lookups is the sum over the events of the entries they select. -/
theorem sum0_apply (x3 : Vec Ideal S101x202 .f32) (hx3 : ∀ k p ch, x3 (ix2 k (pack p ch)) = a3 (ix3 k p ch)) (n : Fin 1024) :
    sum0V (F := Ideal) (countV (shapeCast S8192x1 a0 shapeCasts_S8192_S8192x1) (shapeCast S8192x1 a1 shapeCasts_S8192_S8192x1)) a2 x3 (ix2 n 0)
      = ∑ e, a3 (ix3 (pos (low (H.ctr n 1) (H.ex e).val) (H.ex e).val) (pos (low (H.ctr n 0) (H.ey e).val) (H.ey e).val) 0) := by
  pointwise [sum0V, k0_pay24, k0_pay22, k0_pay21, k0_pay23]
  simp only [tab0_00, tab0_01, tab0_10, tab0_11, pay6_eq, hx3, count_apply H, shiftX_apply H, shiftY_apply H, H.tab_eq]
  have key := (blend H.num (fun u => low (H.ctr n 1) u.val) (fun v => low (H.ctr n 0) v.val)
    (fun b b' u v => H.tab (pos b u.val) (pos b' v.val) 0)).trans (sum_count H.ex H.ey (H.entry n 0))
  rw [← coe_sum]
  refine Eq.trans ?_ (congrArg Real.toEReal key)
  simp only [EReal.coe_add, EReal.coe_sub, EReal.coe_mul, coe_sum]

/-- Channel 1 of the kernel's summed lookups is the sum over the events of the entries they select. -/
theorem sum1_apply (x3 : Vec Ideal S101x202 .f32) (hx3 : ∀ k p ch, x3 (ix2 k (pack p ch)) = a3 (ix3 k p ch)) (n : Fin 1024) :
    sum1V (F := Ideal) (countV (shapeCast S8192x1 a0 shapeCasts_S8192_S8192x1) (shapeCast S8192x1 a1 shapeCasts_S8192_S8192x1)) a2 x3 (ix2 n 0)
      = ∑ e, a3 (ix3 (pos (low (H.ctr n 1) (H.ex e).val) (H.ex e).val) (pos (low (H.ctr n 0) (H.ey e).val) (H.ey e).val) 1) := by
  pointwise [sum1V, k0_pay33, k0_pay32, k0_pay31]
  simp only [tab1_00, tab1_01, tab1_10, tab1_11, pay6_eq, hx3, count_apply H, shiftX_apply H, shiftY_apply H, H.tab_eq]
  have key := (blend H.num (fun u => low (H.ctr n 1) u.val) (fun v => low (H.ctr n 0) v.val)
    (fun b b' u v => H.tab (pos b u.val) (pos b' v.val) 1)).trans (sum_count H.ex H.ey (H.entry n 1))
  rw [← coe_sum]
  refine Eq.trans ?_ (congrArg Real.toEReal key)
  simp only [EReal.coe_add, EReal.coe_sub, EReal.coe_mul, coe_sum]

end

end Cert.KernelIdeal.Value

end
-- ==== Proof.Pre.lean ====
/-
  The precondition read back: where `drawn` prints true, the arguments lie in the stated ranges.
-/
module

public import proofs.«01_k».proof.Pre_drawn
public import proofs.«01_k».proof.Proof.Sums
public import Idealize.ShloMosaic.Lib.ReduceAll
public import Idealize.ShloMosaic.Lib.IdealHost

@[expose] public section

set_option maxRecDepth 16384

noncomputable section

open Idealize.ShloMosaic Idealize.ShloMosaic.TcCoe

namespace Cert.Pre_drawn

open Cert.KernelIdeal.Value (InRange)

/-- The shape relations the precondition's operations take. -/
theorem facts : Facts := ⟨by decide, by decide, by decide, by decide, by decide, by decide, by decide⟩

/-- An array of no axes has one index. -/
instance : Subsingleton S_.Idx := ⟨fun _ _ => funext fun a => a.elim0⟩

/-- A word that compares at least 0 and below 128 is the word of a number below 128. -/
theorem word_range (w : BitVec 32) (h : IntOp.andi (IntOp.cmpi .sge w 0#32) (IntOp.cmpi .slt w 128#32) = 1#1) :
    ∃ u : Fin 128, w = BitVec.ofNat 32 u.val := by
  obtain ⟨h0, h1⟩ := IntOp.andi_eq_one.1 h
  rw [IntOp.cmpi_sge, show (0#32).toInt = 0 from rfl] at h0
  rw [IntOp.cmpi_slt, show (128#32).toInt = 128 from rfl] at h1
  have hn : w.toNat < 128 := by
    rw [BitVec.toInt_eq_toNat_cond] at h0 h1
    have := w.isLt
    split at h0 <;> omega
  exact ⟨⟨w.toNat, hn⟩, BitVec.eq_of_toNat_eq (by rw [BitVec.toNat_ofNat]; show _ = w.toNat % _; omega)⟩

/-- A float that compares at least zero and below one is a real number of `[0, 1)`. -/
theorem float_range (x : EReal)
    (h : IntOp.andi (FloatOps.cmpf (F := Ideal) (φ := .f32) .oge x (FloatOps.ofBits (F := Ideal) .f32 0x00000000#32))
      (FloatOps.cmpf (F := Ideal) (φ := .f32) .olt x (FloatOps.ofBits (F := Ideal) .f32 0x3F800000#32)) = 1#1) :
    ∃ r : ℝ, x = (r : EReal) ∧ 0 ≤ r ∧ r < 1 := by
  obtain ⟨h0, h1⟩ := IntOp.andi_eq_one.1 h
  have e0 : (0 : EReal) ≤ x := by
    have : BitVec.ofBool (decide (Ideal.ofBits .f32 0x00000000#32 ≤ x)) = 1#1 := h0
    rw [Ideal.ofBits_zero_f32] at this
    by_contra hc
    rw [decide_eq_false hc] at this
    exact absurd this (by decide)
  have e1 : x < (1 : EReal) := by
    have : BitVec.ofBool (decide (x < Ideal.ofBits .f32 0x3F800000#32)) = 1#1 := h1
    rw [Ideal.ofBits_one_f32] at this
    by_contra hc
    rw [decide_eq_false hc] at this
    exact absurd this (by decide)
  lift x to ℝ using ⟨(lt_of_lt_of_le e1 le_top).ne, (lt_of_lt_of_le (by decide) e0).ne'⟩
  exact ⟨x, rfl, by exact_mod_cast e0, by exact_mod_cast e1⟩

/-- A float of magnitude below infinity is a real number. -/
theorem float_finite (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have e : max x (-x) < (⊤ : EReal) := by
    have : BitVec.ofBool (decide (max x (-x) < Ideal.ofBits .f32 0x7F800000#32)) = 1#1 := h
    rw [htop] at this
    by_contra hc
    rw [decide_eq_false hc] at this
    exact absurd this (by decide)
  rw [max_lt_iff] at e
  lift x to ℝ using ⟨e.1.ne, fun hb => by rw [hb] at e; simp at e⟩
  exact ⟨x, rfl⟩

/-- Where the precondition holds, the arguments are in range. -/
theorem inRange [Facts] (a0 a1 : IVec S8192 32) (a2 : FVec Ideal S1024x2 .f32) (a3 : FVec Ideal S101x101x2 .f32) (a4 a5 : FVec Ideal S1024x1024 .f32)
    (a6 : FVec Ideal S1024 .f32) (h : fn (F := Ideal) a0 a1 a2 a3 a4 a5 a6 = fun _ => 1#1) : Nonempty (InRange a0 a1 a2 a3) := by
  have h' := congrFun h (Shape.Idx.first Facts.h_S_)
  unfold fn fn_part1 at h'
  obtain ⟨h19, h23⟩ := IntOp.andi_eq_one.1 h'
  obtain ⟨h12, h18⟩ := IntOp.andi_eq_one.1 h19
  obtain ⟨h5, h11⟩ := IntOp.andi_eq_one.1 h12
  have k0 := fun e : Fin 8192 => word_range _ (Host.reduce_andi_all _ _ _ _ _ h5 (ix1 e))
  have k1 := fun e : Fin 8192 => word_range _ (Host.reduce_andi_all _ _ _ _ _ h11 (ix1 e))
  have k2 := fun (n : Fin 1024) (d : Fin 2) => float_range _ (Host.reduce_andi_all _ _ _ _ _ h18 (ix2 n d))
  have k3 := fun (i j : Fin 101) (ch : Fin 2) => float_finite _ (Host.reduce_andi_all _ _ _ _ _ h23 (ix3 i j ch))
  choose ex hex using k0
  choose ey hey using k1
  choose ctr hctr using k2
  choose tab htab using k3
  exact ⟨{ ex := ex, ey := ey, ctr := ctr, tab := tab, ex_eq := hex, ey_eq := hey, ctr_eq := fun n d => (hctr n d).1,
           ctr_nonneg := fun n d => (hctr n d).2.1, ctr_lt := fun n d => (hctr n d).2.2, tab_eq := htab }⟩

end Cert.Pre_drawn

end
-- ==== Proof.RefRead.lean ====
/-
  The reference read at an index: the words its two index chains compute, the table entries its gather takes at them,
  its two sums over the events, and its result column by column through the two scatters.
-/
module

public import proofs.«01_k».proof.Proof.Gen.ReferenceIdeal.Read
public import proofs.«01_k».proof.Proof.Sums
public import Idealize.ShloMosaic.Lib.Routing.OpsSet

@[expose] public section

set_option maxRecDepth 16384

noncomputable section

open Idealize.ShloMosaic Idealize.ShloMosaic.TcCoe Idealize.SL.Sem

namespace Cert.ReferenceIdeal.Read

open Cert.ReferenceIdeal Cert.ReferenceIdeal.Gen Cert.Algebra
open Cert.KernelIdeal.Value (InRange pos)

/-- Clipping to `[-50, 50]`, moving up by 50 and wrapping a negative word gives the table position of the coordinate. -/
theorem word_clip : ∀ (u : Fin 128) (b : Bool),
    (fun w => Scalar.select (IntOp.cmpi .slt w 0#32) (IntOp.addi w 101#32) w)
        (IntOp.addi (IntOp.minsi 50#32 (IntOp.maxsi (-50#32) (BitVec.ofNat 32 (u.val - b.toNat)))) 50#32)
      = BitVec.ofNat 32 (pos b u.val).val := by decide +kernel

section
variable {a0 a1 : Vec Ideal S8192 .i32} {a2 : FVec Ideal S1024x2 .f32} {a3 : FVec Ideal S101x101x2 .f32}
variable (H : InRange a0 a1 a2 a3)

/-- The truncated difference of an event's first coordinate. -/
theorem diffX (n : Fin 1024) (e : Fin 8192) :
    val_main_v8 (F := Ideal) a0 a2 (ix2 n e) = BitVec.ofNat 32 ((H.ex e).val - (low (H.ctr n 1) (H.ex e).val).toNat) := by
  pointwise [val_main_v8, val_main_v7, val_main_v6, val_main_v5, val_main_v4, val_main_v3, val_main_v2, val_main_v1, val_main_v0]
  rw [H.ex_eq, sitofp_small _ (H.ex e).isLt, H.ctr_eq]
  exact trunc_eq _ (H.ctr_nonneg n 1) (H.ctr_lt n 1) _ (H.ex e).isLt

/-- The truncated difference of an event's second coordinate. -/
theorem diffY (n : Fin 1024) (e : Fin 8192) :
    val_main_v17 (F := Ideal) a1 a2 (ix2 n e) = BitVec.ofNat 32 ((H.ey e).val - (low (H.ctr n 0) (H.ey e).val).toNat) := by
  pointwise [val_main_v17, val_main_v16, val_main_v15, val_main_v14, val_main_v13, val_main_v12, val_main_v11, val_main_v10, val_main_v9]
  rw [H.ey_eq, sitofp_small _ (H.ey e).isLt, H.ctr_eq]
  exact trunc_eq _ (H.ctr_nonneg n 0) (H.ctr_lt n 0) _ (H.ey e).isLt

/-- The first index word of an event. -/
theorem wordX (n : Fin 1024) (e : Fin 8192) :
    val_main_v40 (F := Ideal) a0 a1 a2 (ix3 n e 0) = BitVec.ofNat 32 (pos (low (H.ctr n 1) (H.ex e).val) (H.ex e).val).val := by
  pointwise [val_main_v40, val_main_v38, val_main_v32, val_main_v31, val_main_v30, val_main_v29, val_main_v28, val_main_v25, val_main_v24,
    val_main_v23, val_main_v22, val_main_v21, val_main_call0_v4, val_main_call0_v3, val_main_call0_v2, val_main_call0_v1, val_main_call0_v0,
    val_main_v20, val_main_v18, val_main_c, val_main_c_0, val_main_c_1, val_main_c_2, val_main_c_3]
  rw [diffX H]
  exact word_clip _ _

/-- The second index word of an event. -/
theorem wordY (n : Fin 1024) (e : Fin 8192) :
    val_main_v40 (F := Ideal) a0 a1 a2 (ix3 n e 1) = BitVec.ofNat 32 (pos (low (H.ctr n 0) (H.ey e).val) (H.ey e).val).val := by
  pointwise [val_main_v40, val_main_v39, val_main_v37, val_main_v36, val_main_v35, val_main_v34, val_main_v33, val_main_v27, val_main_v26,
    val_main_v23, val_main_v22, val_main_v21, val_main_call0_v4, val_main_call0_v3, val_main_call0_v2, val_main_call0_v1, val_main_call0_v0,
    val_main_v20, val_main_v19, val_main_c, val_main_c_0, val_main_c_1, val_main_c_4, val_main_c_5]
  rw [diffY H]
  exact word_clip _ _

/-- The gather at an index whose two words are table positions. -/
theorem gather_at (x : FVec Ideal S101x101x2 .f32) (idx : IVec S1024x8192x2 32) (n : Fin 1024) (e : Fin 8192) (ch : Fin 2) (p q : Fin 101)
    (hp : idx (ix3 n e 0) = BitVec.ofNat 32 p.val) (hq : idx (ix3 n e 1) = BitVec.ofNat 32 q.val) :
    Host.gather gather_S101x101x2_S1024x8192x2_S1024x8192x2_2_01_n_n_01_2_112 x idx (ix3 n e ch) = x (ix3 p q ch) := by
  have hw : ∀ p : Fin 101, min ((BitVec.ofNat 32 p.val).toInt).toNat 100 = p.val := by decide +kernel
  unfold Host.gather
  refine congrArg x (funext fun a => Fin.ext ?_)
  generalize hd : gather_S101x101x2_S1024x8192x2_S1024x8192x2_2_01_n_n_01_2_112 = d
  have hoff : d.offsetDims = [2] := by rw [← hd]; rfl
  have hcol : d.collapsedSliceDims = [0, 1] := by rw [← hd]; rfl
  have hob : ∀ a', a' ∉ d.operandBatchingDims := fun a' => by rw [← hd]; exact List.not_mem_nil
  have hmap : d.startIndexMap = [0, 1] := by rw [← hd]; rfl
  have hivd : d.indexVectorDim = 2 := by rw [← hd]; rfl
  have hss : d.sliceSizes = ![1, 1, 2] := by rw [← hd]; rfl
  have hbat : d.batchDims = [0, 1] := by rw [← hd]; rfl
  have hsik : d.siKept = [0, 1] := by rw [← hd]; rfl
  clear hd
  have hget : ∀ (l : List (Fin 3)) (k : ℕ) (h : k < l.length) (m : Fin 3), l = [0, 1] → k = m.val → l[k]'h = m := by
    intro l k h m hl hk
    subst hl
    match m with
    | ⟨0, _⟩ => subst hk; rfl
    | ⟨1, _⟩ => subst hk; rfl
    | ⟨2, _⟩ => subst hk; exact absurd h (show ¬ (2 < 2) by decide)
  have hsi : ∀ (c : Fin d.startIndexMap.length) (c' : Fin 2), c.val = c'.val → d.siIdx (ix3 n e ch) c = ix3 n e c' := by
    intro c c' hc
    funext b
    apply Fin.ext
    have val_at : ∀ X Y : Fin 3, X = Y → (ix3 n e ch X).val = (ix3 n e ch Y).val := fun X Y h => by rw [h]
    match b with
    | ⟨0, _⟩ =>
      unfold GatherDims.siIdx
      rw [dif_neg (by rw [hivd]; exact (by decide : ¬ (0 : ℕ) = 2))]
      unfold GatherDims.siCoord
      simp only [Fin.val_cast]
      exact val_at _ 0 (hget _ _ _ 0 hbat (by rw [hsik]; rfl))
    | ⟨1, _⟩ =>
      unfold GatherDims.siIdx
      rw [dif_neg (by rw [hivd]; exact (by decide : ¬ (1 : ℕ) = 2))]
      unfold GatherDims.siCoord
      simp only [Fin.val_cast]
      exact val_at _ 1 (hget _ _ _ 1 hbat (by rw [hsik]; rfl))
    | ⟨2, _⟩ =>
      unfold GatherDims.siIdx
      rw [dif_pos (by rw [hivd])]
      exact hc
  match a with
  | ⟨0, _⟩ =>
    have hm : (0 : Fin 3) ∈ d.startIndexMap := by rw [hmap]; decide
    show d.start (ix3 n e ch) idx 0 + d.batchCoord (ix3 n e ch) 0 + d.offCoord (ix3 n e ch) 0 = p.val
    rw [d.batchCoord_eq_zero _ _ (hob 0), d.offCoord_eq_zero _ _ fun h => ((d.mem_sKept 0).1 h).1 (by rw [hcol]; decide)]
    unfold GatherDims.start
    rw [dif_pos hm, hsi _ 0 (by show List.idxOf (0 : Fin 3) d.startIndexMap = 0; rw [hmap]; rfl), hp, hss]
    exact hw p
  | ⟨1, _⟩ =>
    have hm : (1 : Fin 3) ∈ d.startIndexMap := by rw [hmap]; decide
    show d.start (ix3 n e ch) idx 1 + d.batchCoord (ix3 n e ch) 1 + d.offCoord (ix3 n e ch) 1 = q.val
    rw [d.batchCoord_eq_zero _ _ (hob 1), d.offCoord_eq_zero _ _ fun h => ((d.mem_sKept 1).1 h).1 (by rw [hcol]; decide)]
    unfold GatherDims.start
    rw [dif_pos hm, hsi _ 1 (by show List.idxOf (1 : Fin 3) d.startIndexMap = 1; rw [hmap]; rfl), hq, hss]
    exact hw q
  | ⟨2, _⟩ =>
    have hm : (2 : Fin 3) ∉ d.startIndexMap := by rw [hmap]; decide
    have hk : (2 : Fin 3) ∈ d.sKept := (d.mem_sKept 2).2 ⟨by rw [hcol]; decide, hob 2⟩
    show d.start (ix3 n e ch) idx 2 + d.batchCoord (ix3 n e ch) 2 + d.offCoord (ix3 n e ch) 2 = ch.val
    rw [d.batchCoord_eq_zero _ _ (hob 2)]
    unfold GatherDims.start GatherDims.offCoord
    rw [dif_neg hm, dif_pos hk, Nat.zero_add]
    have val_at : ∀ X : Fin 3, X = 2 → (ix3 n e ch X).val = ch.val := fun X h => by rw [h]; rfl
    have hone : ∀ X ∈ d.offsetDims, X = (2 : Fin 3) := fun X h => by rw [hoff] at h; exact List.mem_singleton.1 h
    exact val_at _ (hone _ (List.getElem_mem _))

/-- The reference's first sum. -/
theorem sumX (n : Fin 1024) :
    val_main_v44 (F := Ideal) a0 a1 a2 a3 (ix1 n)
      = ∑ e, a3 (ix3 (pos (low (H.ctr n 1) (H.ex e).val) (H.ex e).val) (pos (low (H.ctr n 0) (H.ey e).val) (H.ey e).val) 0) := by
  pointwise [val_main_v44, val_main_v43, val_main_v42, val_main_cst]
  refine Finset.sum_congr rfl fun e _ => ?_
  exact gather_at a3 _ n e 0 _ _ (wordX H n e) (wordY H n e)

/-- The reference's second sum. -/
theorem sumY (n : Fin 1024) :
    val_main_v47 (F := Ideal) a0 a1 a2 a3 (ix1 n)
      = ∑ e, a3 (ix3 (pos (low (H.ctr n 1) (H.ex e).val) (H.ex e).val) (pos (low (H.ctr n 0) (H.ey e).val) (H.ey e).val) 1) := by
  pointwise [val_main_v47, val_main_v46, val_main_v45, val_main_cst_6]
  refine Finset.sum_congr rfl fun e _ => ?_
  exact gather_at a3 _ n e 1 _ _ (wordX H n e) (wordY H n e)

end

/-- Where update `k` of either scatter lands: row `k`, the column its one index word names. -/
theorem scatter_lands_col (idx : IVec S1 32) (col : Fin 2) (hc : idx (ix1 0) = BitVec.ofNat 32 col.val) (k r : Fin 1024) (c : Fin 2) :
    scatter_S1024x2_S1_S1024_0_1_1_0.resultIdx? (ix1 k) idx = some (ix2 r c) ↔ k = r ∧ col = c := by
  have hw : ∀ c : Fin 2, (BitVec.ofNat 32 c.val).toInt = (c.val : ℤ) := by decide +kernel
  refine (Routing.resultIdx?_ix2 _ _ _ _ _).trans ?_
  generalize hd : scatter_S1024x2_S1_S1024_0_1_1_0 = d
  have hsd : d.scatterDimsToOperandDims = [1] := by rw [← hd]; rfl
  have hin : d.insertedWindowDims = [1] := by rw [← hd]; rfl
  clear hd
  have hk0 : (0 : Fin 2) ∈ d.sKept := by
    show (0 : Fin 2) ∈ Shape.kept _ d.insertedWindowDims
    rw [hin]; decide
  have hk1 : (1 : Fin 2) ∉ d.sKept := by
    show (1 : Fin 2) ∉ Shape.kept _ d.insertedWindowDims
    rw [hin]; decide
  have w0 : d.window (ix1 k) 0 = k.val := by
    unfold ScatterDims.window
    rw [dif_pos hk0]
    exact congrArg (fun a => (ix1 k a).val) (Subsingleton.elim (α := Fin 1) _ 0)
  have w1 : d.window (ix1 k) 1 = 0 := by
    unfold ScatterDims.window
    rw [dif_neg hk1]
  have s0 : d.start (ix1 k) idx 0 = 0 := by
    unfold ScatterDims.start
    rw [dif_neg (by rw [hsd]; decide)]
  have s1 : d.start (ix1 k) idx 1 = (col.val : ℤ) := by
    unfold ScatterDims.start
    rw [dif_pos (by rw [hsd]; decide)]
    rw [show ∀ j : S1.Idx, idx j = idx (ix1 0) from fun j => congrArg idx (by
      funext a
      match a with
      | ⟨0, _⟩ => exact Subsingleton.elim (α := Fin 1) _ _), hc]
    exact hw col
  rw [w0, w1, s0, s1]
  constructor
  · rintro ⟨h1, h2⟩
    exact ⟨Fin.ext (by omega), Fin.ext (by omega)⟩
  · rintro ⟨rfl, rfl⟩
    exact ⟨by omega, by omega⟩

/-- A scatter that sets column `col`, read in that column: the update. -/
theorem scatter_same (x : FVec Ideal S1024x2 .f32) (idx : IVec S1 32) (upd : FVec Ideal S1024 .f32) (col : Fin 2)
    (hc : idx (ix1 0) = BitVec.ofNat 32 col.val) (r : Fin 1024) :
    Host.scatter scatter_S1024x2_S1_S1024_0_1_1_0 (fun _ b => b) x idx upd (ix2 r col) = upd (ix1 r) := by
  refine Routing.scatter_set_hit _ x idx upd _ _ (fun k hk => ?_) (ix1 r) ((scatter_lands_col idx col hc r r col).2 ⟨rfl, rfl⟩)
  idx_vars k
  rw [((scatter_lands_col idx col hc _ r col).1 hk).1]

/-- The same scatter read in the other column: what was there. -/
theorem scatter_other (x : FVec Ideal S1024x2 .f32) (idx : IVec S1 32) (upd : FVec Ideal S1024 .f32) (col c : Fin 2) (hne : col ≠ c)
    (hc : idx (ix1 0) = BitVec.ofNat 32 col.val) (r : Fin 1024) :
    Host.scatter scatter_S1024x2_S1_S1024_0_1_1_0 (fun _ b => b) x idx upd (ix2 r c) = x (ix2 r c) := by
  refine Routing.scatter_set_miss _ x idx upd _ fun k hk => ?_
  idx_vars k
  exact hne ((scatter_lands_col idx col hc _ r c).1 hk).2

section
variable (x0 x1 : Vec Ideal S8192 .i32) (x2 : FVec Ideal S1024x2 .f32) (x3 : FVec Ideal S101x101x2 .f32)
  (x4 x5 : FVec Ideal S1024x1024 .f32) (x6 : FVec Ideal S1024 .f32) (r : Fin 1024)

/-- Column 0 of the reference's result. -/
theorem out_col0 : val_main_v109 (F := Ideal) x0 x1 x2 x3 x4 x5 x6 (ix2 r 0) = val_main_v105 (F := Ideal) x0 x1 x2 x3 x4 x5 x6 (ix1 r) :=
  scatter_same _ _ _ 0 rfl r

/-- Column 1 of the reference's result. -/
theorem out_col1 : val_main_v109 (F := Ideal) x0 x1 x2 x3 x4 x5 x6 (ix2 r 1) = val_main_v96 (F := Ideal) x0 x1 x2 x3 x4 x5 x6 (ix1 r) :=
  (scatter_other _ _ _ 0 1 (by decide) rfl r).trans (scatter_same _ _ _ 1 rfl r)

end

end Cert.ReferenceIdeal.Read

end
-- ==== Proof.Equation.lean ====
/-
  The kernel's result is the reference's, entry by entry, on arguments in range: after the two sums have been read,
  the two programs do the same operations in the same order.
-/
module

public import proofs.«01_k».proof.Proof.RefRead

@[expose] public section

set_option maxRecDepth 16384

noncomputable section

open Idealize.ShloMosaic Idealize.ShloMosaic.TcCoe Idealize.SL.Sem

namespace Cert.Equation

open Cert.KernelIdeal Cert.KernelIdeal.Gen Cert.KernelIdeal.Value Cert.Algebra
open Cert.ReferenceIdeal.Read

variable {a0 a1 : Vec Ideal S8192 .i32} {a2 : FVec Ideal S1024x2 .f32} {a3 : FVec Ideal S101x101x2 .f32}
  (a4 a5 : FVec Ideal S1024x1024 .f32) (a6 : FVec Ideal S1024 .f32)

/-- A one-bit word widened and read signed is the bit read unsigned. -/
theorem gate_eq (b : BitVec 1) :
    (FloatOps.sitofp (F := Ideal) .f32 (BitVec.setWidth 32 b) : EReal) = FloatOps.uitofp (F := Ideal) .f32 b := by
  have h : ∀ b : BitVec 1, (BitVec.setWidth 32 b).toInt = (b.toNat : ℤ) := by decide
  show (((BitVec.setWidth 32 b).toInt : ℝ) : EReal) = ((b.toNat : ℝ) : EReal)
  rw [h]; norm_cast

/-- A word read signed as a float, spelt out. -/
theorem word_eq (w : BitVec 32) : (FloatOps.sitofp (F := Ideal) .f32 w : EReal) = ((w.toInt : ℝ) : EReal) := rfl

/-- Column 0 of the results. -/
theorem col0 (H : InRange a0 a1 a2 a3) (n : Fin 1024) :
    resultV (F := Ideal) a0 a1 a2 a3 a4 a5 a6 (ix2 n 0) = val_main_v109 (F := Ideal) a0 a1 a2 a3 a4 a5 a6 (ix2 n 0) := by
  rw [out_col0]
  pointwise [resultV, outV, k0_pay1, k0_pay34, k0_pay35, k0_pay36, k0_pay37, k0_pay38, k0_pay39, k0_pay2, k0_pay3,
    val_main_v105, val_main_v104, val_main_v103, val_main_v102, val_main_v101, val_main_v100, val_main_v99, val_main_v98, val_main_v97,
    val_main_call2_v4, val_main_call2_v3, val_main_call2_v2, val_main_call2_v1, val_main_call2_v0, val_main_v87, val_main_v86, val_main_v85,
    val_main_v81, val_main_v80, val_main_v79, val_main_c_16, val_main_c_17, val_main_cst_18, val_main_cst_19, val_main_cst_9, val_main_cst_11,
    val_main_v75, val_main_v74, val_main_v73, val_main_v72, val_main_v71, val_main_v70, val_main_v69, val_main_v68, val_main_v67, val_main_v66,
    val_main_v65, val_main_v64, val_main_v63, val_main_v62, val_main_v61, val_main_v60, val_main_v59, val_main_v58, val_main_v57, val_main_v56,
    val_main_v55, val_main_v54, val_main_v53, val_main_v52, val_main_v51, val_main_v50, val_main_v49, val_main_v48, val_main_cst_7]
  rw [sum0_apply H _ (packed_apply a3) n, sum1_apply H _ (packed_apply a3) n, sumX H n, sumY H n, gate_eq, word_eq 400#32, word_eq 4294966896#32]

/-- Column 1 of the results. -/
theorem col1 (H : InRange a0 a1 a2 a3) (n : Fin 1024) :
    resultV (F := Ideal) a0 a1 a2 a3 a4 a5 a6 (ix2 n 1) = val_main_v109 (F := Ideal) a0 a1 a2 a3 a4 a5 a6 (ix2 n 1) := by
  rw [out_col1]
  pointwise [resultV, outV, k0_pay1, k0_pay34, k0_pay35, k0_pay36, k0_pay37, k0_pay38, k0_pay39, k0_pay2, k0_pay3,
    val_main_v96, val_main_v95, val_main_v94, val_main_v93, val_main_v92, val_main_v91, val_main_v90, val_main_v89, val_main_v88,
    val_main_call1_v4, val_main_call1_v3, val_main_call1_v2, val_main_call1_v1, val_main_call1_v0, val_main_v84, val_main_v83, val_main_v82,
    val_main_v78, val_main_v77, val_main_v76, val_main_c_12, val_main_c_13, val_main_cst_14, val_main_cst_15, val_main_cst_8, val_main_cst_10,
    val_main_v75, val_main_v74, val_main_v73, val_main_v72, val_main_v71, val_main_v70, val_main_v69, val_main_v68, val_main_v67, val_main_v66,
    val_main_v65, val_main_v64, val_main_v63, val_main_v62, val_main_v61, val_main_v60, val_main_v59, val_main_v58, val_main_v57, val_main_v56,
    val_main_v55, val_main_v54, val_main_v53, val_main_v52, val_main_v51, val_main_v50, val_main_v49, val_main_v48, val_main_cst_7]
  rw [sum0_apply H _ (packed_apply a3) n, sumX H n, gate_eq, word_eq 400#32, word_eq 4294966896#32]

/-- On arguments in range the two results are equal. -/
theorem result_eq (H : InRange a0 a1 a2 a3) :
    resultV (F := Ideal) a0 a1 a2 a3 a4 a5 a6 = val_main_v109 (F := Ideal) a0 a1 a2 a3 a4 a5 a6 := by
  funext i
  obtain ⟨n, c, rfl⟩ : ∃ (n : Fin 1024) (c : Fin 2), i = ix2 n c := ⟨_, _, eq_ix2 i⟩
  match c with
  | 0 => exact col0 a4 a5 a6 H n
  | 1 => exact col1 a4 a5 a6 H n

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Pre
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- From any memory the reference runs to its end, leaves its arguments unchanged and every counter at zero. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run (F := Ideal) m g)

/-- Over the reals, on arguments that meet the precondition, the kernel and the reference end with the same result. -/
theorem algebraic : Cert.algebraic_KernelIdeal_ReferenceIdeal_pre_drawn (hKernelIdeal := Cert.KernelIdeal.Gen.facts)
    (hReferenceIdeal := Cert.ReferenceIdeal.Gen.facts) (hPre_drawn := Cert.Pre_drawn.facts) := by
  intro m g m' g' hpre hargs
  refine ⟨fun c => Cert.KernelIdeal.Value.result m c, ?_, ?_⟩
  · exact (θ_run _ _ _).mono (fun r h c => ⟨(h c).1.trans (Cert.KernelIdeal.Value.final_eq m c), (h c).2⟩)
      (Cert.KernelIdeal.Value.run_blocks (F := Ideal) m g)
  · refine (θ_run _ _ _).mono (fun r h c => ⟨(h c).1.trans ?_, (h c).2⟩)
      (Cert.ReferenceIdeal.Value.run (F := Ideal) m' g')
    obtain ⟨h0, h1, h2, h3, h4, h5, h6⟩ := hargs c
    obtain ⟨H⟩ := @Cert.Pre_drawn.inRange Cert.Pre_drawn.facts _ _ _ _ _ _ _ (hpre c)
    refine (Cert.ReferenceIdeal.Read.val_main_v109_eq m' c).trans ?_
    rw [h0, h1, h2, h3, h4, h5, h6]
    exact (Cert.Equation.result_eq _ _ _ H).symm

/-- Every claim of the certificate. -/
theorem claim : Cert.Claim :=
  ⟨Cert.Kernel.Gen.facts, Cert.KernelIdeal.Gen.facts, Cert.ReferenceIdeal.Gen.facts, Cert.Pre_drawn.facts,
    fun m g _ => Cert.Kernel.Gen.frame m g,
    fun m g _ => Cert.KernelIdeal.Gen.frame m g,
    fun m g _ => Cert.KernelIdeal.Gen.frame m g,
    frame_reference,
    fun m g _ => frame_reference m g trivial,
    trivial,
    algebraic⟩

end Cert.Proof

end
